-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 1024]⟩ ⟨2, ![1, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1x1024 : Shape := ⟨2, ![1, 1024]⟩
abbrev S4x512x1024 : Shape := ⟨3, ![4, 512, 1024]⟩
abbrev S4 : Shape := ⟨1, ![4]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1024 : Shape := ⟨1, ![1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .local _ .vmem, ⟨0, _⟩ => ⟨S4x512x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_157 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_156 : BitVec 32 := 2#32
  let v166 : BitVec 32 := Scalar.muli v6 c2_i32_156
  let v167 : BitVec 32 := Scalar.addi c0_i32_157 v166
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_158 : BitVec 32 := 1#32
  let v168 : BitVec 32 := Scalar.muli v5 c1_i32_158
  let v169 : BitVec 32 := Scalar.addi v167 v168
  v169.toNat
-- ==== ReferenceIdeal.lean ====
abbrev S8192x2048 : Shape := ⟨2, ![8192, 2048]⟩
abbrev S_ : Shape := ⟨0, ![]⟩
abbrev S2048 : Shape := ⟨1, ![2048]⟩
abbrev S1x2048 : Shape := ⟨2, ![1, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S_, .f32⟩
  | .hbm, ⟨2, _⟩ => ⟨S2048, .f32⟩
  | .hbm, ⟨3, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Protocol.lean ====
/-
  The exchange between the two devices of a mesh column, as a protocol.

  Device `c = (x, y)` of the 2 × 2 mesh exchanges one 1 × 1024 row with its partner `peer c = (1 - x, y)`.
  Three semaphores take part on each device, one round and one duty each: the barrier semaphore (the partner
  tells that its receive buffer may be written), the send semaphore and the receive semaphore of the transfer.
  The five other semaphores count the device's own copies and stay with the device.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.ColSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost algebra -/

/-- The pipeline's rounds, the exchange's rounds, and the counters of the local copies. -/
abbrev GA : Type := UR sig nD τ × (UR sig nD τ × Counters)

local notation "𝕄" => MT nD τ sig Unit (Elt F) ℕ GA ℕ

/-- Where the pipeline's rounds lie. -/
abbrev EP : Emb (UR sig nD τ) (MT nD τ sig Unit (Elt F) ℕ GA ℕ) := embL
/-- Where the exchange's rounds lie. -/
abbrev EX : Emb (UR sig nD τ) (MT nD τ sig Unit (Elt F) ℕ GA ℕ) := (Emb.inl : Emb (UR sig nD τ) (UR sig nD τ × Counters)).trans embR

/-! ## The partner -/

/-- The partner of device `(x, y)` is `(1 - x, y)`: logical number `2 x + y` goes to `2 (1 - x) + y`. -/
def peer (c : Dev nD) : Dev nD := ⟨((c.val % 2) + 2) - 2 * (c.val / 2), by have := c.isLt; revert this; generalize c.val = v; decide +revert⟩

theorem peer_peer (c : Dev nD) : peer (peer c) = c := by revert c; decide

/-- The device that the barrier signal names is the partner. -/
theorem signal_peer (c : Dev nD) : (⟨k0_dev1 c, k0_dev1_lt c⟩ : Dev nD) = peer c := Fin.ext (k0_dev1_eq c)
/-- The device that the remote copy names is the partner. -/
theorem copy_peer (c : Dev nD) : (⟨k0_dev2 c, k0_dev2_lt c⟩ : Dev nD) = peer c := Fin.ext (k0_dev2_eq c)

/-- Taking partners is a permutation of the devices. -/
def partners : Dev nD ≃ Dev nD := ⟨peer, peer, peer_peer, peer_peer⟩

/-! ## The buffers and the semaphores -/

abbrev bufM : Memref sig .tc .vmem S4x512x1024 .f32 := Memref.whole cc0_scratch0
abbrev accM : Memref sig .tc .vmem S1x1024 .f32 := Memref.whole cc0_scratch1
abbrev sendM : Memref sig .tc .vmem S1x1024 .f32 := Memref.whole cc0_scratch2
abbrev recvM : Memref sig .tc .vmem S1x1024 .f32 := Memref.whole cc0_scratch3
abbrev inM : Memref sig .tc .hbm S4096x1024 .f32 := Memref.whole main_arg0
abbrev outM : Memref sig .tc .hbm S1x1024 .f32 := Memref.whole main_v1

/-- A whole buffer of device `c` at contents `f`. -/
abbrev pts {sp : Space} {S : Shape} {e : EltTy} (c : Dev nD) (M : Memref sig .tc sp S e) (f : Buf (Elt F) (M.view.loc (c : Thread nD τ))) : sProp 𝕄 :=
  M.view.loc (c : Thread nD τ) ↦{fullShare} f

abbrev barS : SemLoc sig := .reg (SemArray.scalar (sig.barrier 0 rfl) : Sems sig S_).sem
abbrev sendS : SemLoc sig := .dma cc0_scratch6.sem
abbrev recvS : SemLoc sig := .dma cc0_scratch7.sem

/-- The three semaphores of the exchange: barrier, send, receive. -/
abbrev xsem : Fin 3 → SemLoc sig := ![barS, sendS, recvS]
/-- Such a semaphore on such a device. -/
abbrev cell (c : Dev nD) (k : Fin 3) : GSem nD τ sig := ((c : Thread nD τ), xsem k)
abbrev barC (c : Dev nD) : GSem nD τ sig := ((c : Thread nD τ), barS)
abbrev sendC (c : Dev nD) : GSem nD τ sig := ((c : Thread nD τ), sendS)
abbrev recvC (c : Dev nD) : GSem nD τ sig := ((c : Thread nD τ), recvS)

/-- What the transfer of one row credits to each of its two semaphores. -/
abbrev rowCredit : ℕ := (recvM : Memref sig .tc .vmem S1x1024 .f32).view.dmaCredit

theorem rowCredit_pos : 0 < rowCredit := View.dmaCredit_pos _ (by decide)

/-- The semaphores of the launch: five for the local copies, send, receive. -/
abbrev osem : Fin 7 → SemLoc sig := fun j => SemLoc.dma (![0, 1, 2, 3, 4, 5, 6] j)

theorem sendS_eq : sendS = SemLoc.dma 5 := by decide
theorem recvS_eq : recvS = SemLoc.dma 6 := by decide

theorem xsem_inj : Function.Injective xsem := by decide

/-! ## The schedule -/

section Schedule

-- `part c` is the row of partial sums that device `c` sends.
variable (part : Dev nD → FVec F S1x1024 .f32)

/-- The receive buffer of a device, at any contents. -/
def free (c : Dev nD) : sProp 𝕄 := iprop(∃ f, pts c recvM f)

/-- A barrier signal to `c` carries the partner's receive buffer, and that its receive semaphore is at its first round. -/
def barPay (c : Dev nD) : sProp 𝕄 := iprop(free (peer c) ∗ reached EX (recvC (peer c)) 0)
/-- The end of the transfer out of `c` gives back the send buffer. -/
def sendPay (c : Dev nD) : sProp 𝕄 := pts c sendM (part c)
/-- The end of the transfer into `c` gives the receive buffer with the partner's row in it. -/
def recvPay (c : Dev nD) : sProp 𝕄 := pts c recvM (part (peer c))

instance (c : Dev nD) : BI.Storable (upEmb : UEmb _ 𝕄) (barPay (F := F) c) := by unfold barPay free; infer_instance
instance (c : Dev nD) : BI.Storable (upEmb : UEmb _ 𝕄) (sendPay part c) := by unfold sendPay; infer_instance
instance (c : Dev nD) : BI.Storable (upEmb : UEmb _ 𝕄) (recvPay part c) := by unfold recvPay; infer_instance

/-- One round with one duty on each of the three semaphores of a device. -/
def sched : Rounds.Schedule (GSem nD τ sig) Unit 𝕄 where
  duties g r := if r = 0 ∧ g.1.2 = .tc ∧ ∃ k, g.2 = xsem k then {()} else ∅
  unitless _ := False
  amount g _ _ := if g.2 = barS then 1 else rowCredit
  payload g _ _ :=
    if g.2 = barS then barPay g.1.1 else if g.2 = sendS then sendPay part g.1.1
    else if g.2 = recvS then recvPay part g.1.1 else iprop(emp)
  amount_pos g _ _ _ := by split; exacts [Nat.one_pos, rowCredit_pos]

instance (g : GSem nD τ sig) (r : ℕ) (d : Unit) : BI.Storable (upEmb : UEmb _ 𝕄) ((sched part).payload g r d) := by
  show BI.Storable upEmb (if g.2 = barS then barPay g.1.1 else if g.2 = sendS then sendPay part g.1.1
    else if g.2 = recvS then recvPay part g.1.1 else iprop(emp))
  (repeat' split) <;> infer_instance

variable (c : Dev nD)

theorem duties_cell (k : Fin 3) : (sched part).duties (cell c k) 0 = {()} := if_pos ⟨rfl, rfl, k, rfl⟩
theorem duties_later (g : GSem nD τ sig) (r : ℕ) (h : 1 ≤ r) : (sched part).duties g r = ∅ :=
  if_neg fun h' => by have := h'.1; omega

theorem amount_bar : (sched part).amount (barC c) 0 () = 1 := by dsimp only [sched]; exact if_pos rfl
theorem amount_send : (sched part).amount (sendC c) 0 () = rowCredit := by dsimp only [sched]; exact if_neg (by decide)
theorem amount_recv : (sched part).amount (recvC c) 0 () = rowCredit := by dsimp only [sched]; exact if_neg (by decide)

theorem payload_bar : (sched part).payload (barC c) 0 () = iprop(free (peer c) ∗ reached EX (recvC (peer c)) 0) := by dsimp only [sched]; exact if_pos rfl
theorem payload_send : (sched part).payload (sendC c) 0 () = pts c sendM (part c) := by
  dsimp only [sched]; exact (if_neg (by decide)).trans (if_pos rfl)
theorem payload_recv : (sched part).payload (recvC c) 0 () = pts c recvM (part (peer c)) := by
  dsimp only [sched]; exact (if_neg (by decide)).trans ((if_neg (by decide)).trans (if_pos rfl))

/-- A cell of the exchange expects its one duty's amount. -/
theorem expect_cell (k : Fin 3) : (sched part).expect (cell c k) 0 = (sched part).amount (cell c k) 0 () := by
  unfold Schedule.expect Schedule.amountOf; rw [duties_cell, Finset.sum_singleton]

theorem duties_bar : (sched part).duties (barC c) 0 = {()} := duties_cell part c 0
theorem duties_send : (sched part).duties (sendC c) 0 = {()} := duties_cell part c 1
theorem duties_recv : (sched part).duties (recvC c) 0 = {()} := duties_cell part c 2
theorem expect_bar : (sched part).expect (barC c) 0 = 1 := (expect_cell part c 0).trans (amount_bar part c)
theorem expect_send : (sched part).expect (sendC c) 0 = rowCredit := (expect_cell part c 1).trans (amount_send part c)
theorem expect_recv : (sched part).expect (recvC c) 0 = rowCredit := (expect_cell part c 2).trans (amount_recv part c)

/-- The rest of a cell's round, nothing taken from it, is its one payload. -/
theorem rest_cell (k : Fin 3) :
    bigSep ((sched part).duties (cell c k) 0 \ ∅) (fun d => (sched part).payload (cell c k) 0 d) = (sched part).payload (cell c k) 0 () := by
  rw [Finset.sdiff_empty, duties_cell, bigSep_singleton]

end Schedule

/-! ## Debts and levels -/

/-- At launch a device owes its partner the row's credit and the barrier's unit. -/
def debt (c : Dev nD) : CellTallies nD τ sig Unit := tallyAt (recvC (peer c)) () rowCredit + tallyAt (barC (peer c)) () 1

def names (g : GSem nD τ sig) : Finset Unit := if g.1.2 = .tc then {()} else ∅
/-- The receive semaphores lie above the barrier semaphores, and these above all others. -/
def level (g : GSem nD τ sig) (_ : Unit) : ℕ := if g.2 = recvS then 2 else if g.2 = barS then 1 else 0

theorem names_off (g : GSem nD τ sig) (h : g.1.2 ≠ .tc) : names g = ∅ := if_neg h
theorem mem_names (c : Dev nD) (sm : SemLoc sig) (u : Unit) : u ∈ names ((c : Thread nD τ), sm) := by
  rw [names, if_pos rfl]; exact Finset.mem_singleton_self _

/-- Below the receive level, a semaphore of a device may be waited for while the device owes a row. -/
theorem mayWait_row (c d : Dev nD) (sm : SemLoc sig) (h : sm ≠ recvS) :
    (levAts names level : sProp 𝕄) ⊢ MayWait (c : Thread nD τ) sm () (tallyAt (recvC d) () rowCredit) := by
  have hg (g : GSem nD τ sig) (u : Unit) (hp : 0 < (tallyAt (recvC d) () rowCredit : CellTallies nD τ sig Unit) g u) : g = recvC d := by
    rw [tallyAt_apply] at hp; by_contra hne; rw [if_neg fun h => hne h.1] at hp; exact Nat.lt_irrefl 0 hp
  refine MayOwe.of_cut (L := names) (lev := level) 1 (fun p hp => by rw [Finset.mem_singleton.mp hp]; exact mem_names c sm _)
    (fun g u hp => by rw [hg g u hp]; exact mem_names d recvS _)
    (fun p hp => by rw [Finset.mem_singleton.mp hp]; dsimp only [level]; rw [if_neg h]; split <;> decide)
    (fun g u hp => by rw [hg g u hp]; dsimp only [level]; rw [if_pos rfl]; decide)

end Cert.ColSum

end
-- ==== Proof.Chunks.lean ====
/-
  What the blocks of rows are, and what a device adds up.

  The input block of a device, 4096 rows of 1024, is read in eight chunks of 512 rows. Chunk `k` is copied into slot
  `k % 4` of a buffer of four slots; what is loaded from the slot afterwards is the chunk, whatever the other slots hold.
-/
module

public import proofs.«01_k».proof.Proof.Protocol
public import Idealize.ShloMosaic.Lib.ValueIdxCore
public import Idealize.ShloMosaic.Lib.ViewIndex

@[expose] public section

noncomputable section

namespace Cert.ColSum

open Cert.KernelIdeal Cert.KernelIdeal.Gen
open Idealize.ShloMosaic Idealize.ShloMosaic.TcCoe

variable {F : FTy → Type} [FloatOps F]

/-- Rows `o` to `o + 511` of a device's input block. -/
def rowsFrom (x : FVec F S4096x1024 .f32) (o : ℕ) (ho : o + 512 ≤ 4096) : FVec F S1x512x1024 .f32 :=
  fun i => x (ValueIdx.ix2 ⟨o + (i 1).val, by have : (i 1).val < 512 := (i 1).isLt; omega⟩ (i 2))

/-- The column sums of the first `512 (k + 1)` rows, added chunk by chunk. -/
def sumTo (x : FVec F S4096x1024 .f32) : (k : ℕ) → k < 8 → FVec F S1x1024 .f32
  | 0, _ => k0_pay3 (rowsFrom x 0 (by decide))
  | k + 1, h => k0_pay4 (rowsFrom x (512 * (k + 1)) (by omega)) (sumTo x k (by omega))

/-- The row a device sends: the column sums of its whole block. -/
def ownRow (x : FVec F S4096x1024 .f32) : FVec F S1x1024 .f32 := k0_pay1 (sumTo x 7 (by decide))

section Slots

variable {c : Dev nD}

/-- Slot `k` of the buffer, as the copies address it. -/
abbrev slot (k : ℕ) (h : ∀ a, ![k, 0, 0] a + S1x512x1024.size a ≤ S4x512x1024.size a) : Memref sig .tc .vmem S512x1024 .f32 :=
  (bufM.slice (Rect.unit ![k, 0, 0] S1x512x1024.size h) (fun _ => rfl)).squeeze S512x1024 squeezes_S1x512x1024_S512x1024

/-- A load from a slot after a write of the whole slot gives what was written. -/
theorem load_same (k : ℕ) (h) (f : bufM.view.ty.Contents (Elt F)) (w : S512x1024.Idx → Elt F .f32) :
    bufM.view.readAt (Elt F) (Rect.unit (s := S4x512x1024) ![k, 0, 0] S1x512x1024.size h).toLoadRect ((slot k h).view.write (Elt F) f w Finset.univ)
      = fun i => w (ValueIdx.ix2 (i 1) (i 2)) := by
  funext i
  have hi : i = Shape.reshapeEquiv squeezes_S1x512x1024_S512x1024.numel_eq (ValueIdx.ix2 (i 1) (i 2) : S512x1024.Idx) := by
    rw [Shape.reshapeEquiv_cons_one]
    exact Shape.idx3_ext (Nat.lt_one_iff.mp (i 0).isLt) rfl rfl
  refine (congrArg _ hi).trans ?_
  exact View.read_write_reshape (bufM.view.slice (Rect.unit ![k, 0, 0] S1x512x1024.size h)) squeezes_S1x512x1024_S512x1024.numel_eq f w _

/-- A load from a slot does not see a write of another slot. -/
theorem load_other (k j : ℕ) (h h') (hkj : k ≠ j) (f : bufM.view.ty.Contents (Elt F)) (w : S512x1024.Idx → Elt F .f32) :
    bufM.view.readAt (Elt F) (Rect.unit (s := S4x512x1024) ![k, 0, 0] S1x512x1024.size h).toLoadRect ((slot j h').view.write (Elt F) f w Finset.univ)
      = bufM.view.readAt (Elt F) (Rect.unit (s := S4x512x1024) ![k, 0, 0] S1x512x1024.size h).toLoadRect f := by
  refine View.read_congr (v := bufM.view.slice (Rect.unit ![k, 0, 0] S1x512x1024.size h)) fun i hi => View.write_of_not_mem _ _ _ fun hm => ?_
  rw [View.set_slice_whole] at hi
  have hm' : i ∈ (slot j h').view.set := hm
  rw [show (slot j h').view.set = ((View.whole cc0_scratch0).slice (Rect.unit ![j, 0, 0] S1x512x1024.size h')).set from View.set_reshape _ _,
    View.set_slice_whole] at hm'
  refine Finset.disjoint_left.mp (Rect.unit_disjoint 0 ?_) hi hm'
  show k + 1 ≤ j ∨ j + 1 ≤ k
  omega

/-- The rows a copy reads are the chunk. -/
theorem read_rows (o : ℕ) (h : ∀ a, ![o, 0] a + S512x1024.size a ≤ S4096x1024.size a) (ho) (x : inM.view.ty.Contents (Elt F)) :
    (fun i : S1x512x1024.Idx => (inM.slice (Rect.unit ![o, 0] S512x1024.size h) (fun _ => rfl)).view.read (Elt F) x (ValueIdx.ix2 (i 1) (i 2))) = rowsFrom x o ho := by
  funext i
  show x _ = x _
  congr 1; funext a
  refine Fin.ext ?_
  fin_cases a
  · show o + 1 * (i 1).val = o + (i 1).val; omega
  · show 0 + 1 * (i 2).val = (i 2).val; omega

end Slots

end Cert.ColSum
end
-- ==== Proof.Body.lean ====
/-
  One device runs the kernel's body: from what it holds at launch to what it holds at the end.

  The device copies its chunks in, adds them up, and then exchanges rows with its partner: the barrier wait gives it the
  partner's receive buffer, the transfer writes its row there, and its own receive semaphore gives it the partner's row.
-/
module

public import proofs.«01_k».proof.Proof.Chunks
public import Idealize.ShloMosaic.Lib.Pipeline.FrameBody
public import Idealize.ShloMosaic.Lib.Pipeline.Value

@[expose] public section

noncomputable section

namespace Cert.ColSum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ GA ℕ

-- `xs c` is the input block of device `c`; the cell `(c, k)` has its invariant under the name `K (c, k)`.
variable (xs : Dev nD → FVec F S4096x1024 .f32) (K : Dev nD × Fin 3 → ℕ)

/-- The row that each device sends. -/
abbrev rows (c : Dev nD) : FVec F S1x1024 .f32 := ownRow (xs c)

/-- The row that each device puts out: its own row and its partner's added. -/
def total (c : Dev nD) : FVec F S1x1024 .f32 := k0_pay2 (rows xs c) (rows xs (peer c))

/-- The invariants a device works with: its own three cells', its partner's barrier's and receive's. -/
def invs (c : Dev nD) : sProp 𝕄 :=
  iprop(cellInv EX (sched (rows xs)) (K (c, 0)) (barC c) ∗ cellInv EX (sched (rows xs)) (K (c, 1)) (sendC c)
    ∗ cellInv EX (sched (rows xs)) (K (c, 2)) (recvC c) ∗ cellInv EX (sched (rows xs)) (K (peer c, 0)) (barC (peer c))
    ∗ cellInv EX (sched (rows xs)) (K (peer c, 2)) (recvC (peer c)))

/-- The tokens of a device: where it stands at its three cells, and the three duties it has. -/
def toks (c : Dev nD) : sProp 𝕄 :=
  iprop(atPos EX (barC c) 0 ∅ 0 ∗ atPos EX (sendC c) 0 ∅ 0 ∗ atPos EX (recvC c) 0 ∅ 0
    ∗ reached EX (barC (peer c)) 0 ∗ reached EX (sendC c) 0 ∗ reached EX (recvC c) 0
    ∗ dutyTok EX (barC (peer c)) 0 () ∗ dutyTok EX (sendC c) 0 () ∗ dutyTok EX (recvC (peer c)) 0 ())

/-- The counters of the device's own copies at zero. -/
def counters (c : Dev nD) : sProp 𝕄 :=
  iprop(semVal ((c : Thread nD τ), SemLoc.dma 0) 0 ∗ semVal ((c : Thread nD τ), SemLoc.dma 1) 0 ∗ semVal ((c : Thread nD τ), SemLoc.dma 2) 0
      ∗ semVal ((c : Thread nD τ), SemLoc.dma 3) 0 ∗ semVal ((c : Thread nD τ), SemLoc.dma 4) 0)

/-- The four scratch buffers, at any contents. -/
def scratch (c : Dev nD) : sProp 𝕄 :=
  iprop((∃ f, pts c bufM f) ∗ (∃ f, pts c accM f) ∗ (∃ f, pts c sendM f) ∗ free c)

/-- What a device holds before the body, beside its debt. -/
def before (y : Dev nD → FVec F S1x1024 .f32) (c : Dev nD) : sProp 𝕄 :=
  iprop(invs xs K c ∗ toks c ∗ cred (tallyAt (barC c) () 1) ∗ cred (tallyAt (recvC c) () rowCredit) ∗ levAts names level
    ∗ pts c inM (xs c) ∗ pts c outM (y c) ∗ counters c ∗ scratch c)

/-- What it holds after: the input as it was, the output row, the counters at zero again. -/
def after (c : Dev nD) : sProp 𝕄 :=
  iprop(pts c inM (xs c) ∗ pts c outM (total xs c) ∗ counters c ∗ semVal (sendC c) 0 ∗ semVal (recvC c) 0 ∗ semVal (barC c) 0 ∗ scratch c)

/-- The offsets of a whole row. -/
theorem off_zero : (![0, 0] : Fin 2 → ℕ) = fun _ => 0 := by funext a; fin_cases a <;> rfl

/-- A row stored whole in the send buffer is what it holds. -/
theorem write_send (f w : FVec F S1x1024 .f32) :
    sendM.view.writes (Elt F) f [⟨Rect.unit (s := S1x1024) ![0, 0] S1x1024.size inb_S1x1024_S1x1024_0_0, w⟩] = w :=
  Memref.write_access_unit_zero_univ (Elt F) cc0_scratch2 off_zero inb_S1x1024_S1x1024_0_0 f w

/-- A row stored whole in the accumulator, after other stores, is what it holds. -/
theorem write_acc (f w : FVec F S1x1024 .f32) (L : List (View.Piece (Elt F) S1x1024 .f32)) :
    accM.view.writes (Elt F) f (⟨Rect.unit (s := S1x1024) ![0, 0] S1x1024.size inb_S1x1024_S1x1024_0_0, w⟩ :: L) = w :=
  Memref.write_access_unit_zero_univ (Elt F) cc0_scratch1 off_zero inb_S1x1024_S1x1024_0_0 (accM.view.writes (Elt F) f L) w

/-- A load of a whole row gives the row, from the send buffer -/
theorem load_send (f : FVec F S1x1024 .f32) : sendM.view.readAt (Elt F) (Rect.unit (s := S1x1024) ![0, 0] S1x1024.size inb_S1x1024_S1x1024_0_0).toLoadRect f = f :=
  Memref.readAt_unit_zero (Elt F) cc0_scratch2 off_zero inb_S1x1024_S1x1024_0_0 f
/-- and from the receive buffer. -/
theorem load_recv (f : FVec F S1x1024 .f32) : recvM.view.readAt (Elt F) (Rect.unit (s := S1x1024) ![0, 0] S1x1024.size inb_S1x1024_S1x1024_0_0).toLoadRect f = f :=
  Memref.readAt_unit_zero (Elt F) cc0_scratch3 off_zero inb_S1x1024_S1x1024_0_0 f

/-- The transfer of a device's row into its partner's receive buffer. -/
theorem send_row (c d : Dev nD) (hd : d = peer c) {hsc : (recvM : Memref sig (Dev.tc d : Thread nD τ).2.kind .vmem S1x1024 .f32).view.ref.isScScratch = false}
    {hsrc : (sendM : Memref sig .tc .vmem S1x1024 .f32).view.WordExact} {hdst : (recvM : Memref sig .tc .vmem S1x1024 .f32).view.WordExact}
    {hsem : DmaTarget.Typed .vmem recvS (.remote (Dev.tc d : Thread nD τ) (recvM : Memref sig .tc .vmem S1x1024 .f32) sendS hsc)}
    {α : Type} {Q : α → sProp 𝕄} {k : PUnit → Prog (TpuEff nD τ sig (Elt F) Λ₀ .tc) α}
    (f : Buf (Elt F) (recvM.view.loc (peer c : Thread nD τ))) (W : Waits sig Unit) :
    iprop(cellInv EX (sched (rows xs)) (K (c, 1)) (sendC c) ∗ cellInv EX (sched (rows xs)) (K (peer c, 2)) (recvC (peer c))
        ∗ pts c sendM (rows xs c) ∗ pts (peer c) recvM f ∗ owes (c : Thread nD τ) (tallyAt (recvC (peer c)) () rowCredit) W
        ∗ dutyTok EX (sendC c) 0 () ∗ reached EX (sendC c) 0 ∗ dutyTok EX (recvC (peer c)) 0 () ∗ reached EX (recvC (peer c)) 0)
      ⊢ iprop(((cred (tallyAt (sendC c) () rowCredit) ∗ owes (c : Thread nD τ) 0 W) -∗ wp frame (wpE (defs₀ (F := F)) Variants.none (c : Thread nD τ) none) Set.univ (k ⟨⟩) Q)
          -∗ wp frame (wpE (defs₀ (F := F)) Variants.none (c : Thread nD τ) none) Set.univ
              (.op (.enqueueDma sendM (.remote (Dev.tc d : Thread nD τ) recvM sendS hsc) recvS hsrc hdst hsem) k) Q) := by
  subst hd
  have e1 : (pts c sendM (rows xs c) : sProp 𝕄) = (sendM.view.loc (c : Thread nD τ) ↦[sendM.view.set]{fullShare} rows xs c) :=
    congrArg (fun s => (sendM.view.loc (c : Thread nD τ) ↦[s]{fullShare} rows xs c : sProp 𝕄)) (View.set_whole cc0_scratch2).symm
  have e2 (g : FVec F S1x1024 .f32) : (pts (peer c) recvM g : sProp 𝕄) = (recvM.view.loc (peer c : Thread nD τ) ↦[recvM.view.set]{fullShare} g) :=
    congrArg (fun s => (recvM.view.loc (peer c : Thread nD τ) ↦[s]{fullShare} g : sProp 𝕄)) (View.set_whole cc0_scratch3).symm
  rw [e1, e2 f]
  refine Rounds.wp_send_pointsTo Variants.none EX (sched (rows xs)) (c : Thread nD τ) none
    (by rw [duties_send]; exact Finset.mem_singleton_self _) (by rw [duties_recv]; exact Finset.mem_singleton_self _)
    () () rowCredit rfl (amount_send _ c) (amount_recv _ (peer c)) 0 (zero_add _).symm ?_ ?_
  · rw [← e1, payload_send]
  · rw [View.read_whole, View.write_whole_univ, ← e2, payload_recv, peer_peer]

attribute [local sl_rounds] duties_bar amount_bar expect_bar payload_bar peer_peer duties_send expect_send amount_send payload_send
  duties_recv expect_recv amount_recv payload_recv

set_option sl_exec.dmaWindow true in
set_option maxHeartbeats 2000000 in
/-- The body runs from what a device holds before to what it holds after, its debt paid. -/
theorem run (c : Dev nD) (y : Dev nD → FVec F S1x1024 .f32) (W : Waits sig Unit) (Q : PUnit → sProp 𝕄) :
    iprop(before xs K y c ∗ owes (c : Thread nD τ) (debt c) W ∗ ((after xs c ∗ ∃ W', owes (c : Thread nD τ) 0 W') -∗ Q ⟨⟩))
    ⊢ wp frame (wpE (defs₀ (F := F)) Variants.none (c : Thread nD τ) none) Set.univ
          (cc0_body inM (Memref.isWhole_whole _) outM (Memref.isWhole_whole _) bufM (Memref.isWhole_whole _) accM (Memref.isWhole_whole _)
            sendM (Memref.isWhole_whole _) recvM (Memref.isWhole_whole _) cc0_scratch4 cc0_scratch5 cc0_scratch6 cc0_scratch7) Q := by
  rw [cc0_body_eq_skeleton]; unfold cc0_body_skel before invs toks counters scratch debt
  have hd : (⟨k0_dev1 c, k0_dev1_lt c⟩ : Dev nD) = peer c := signal_peer c
  have hmw : ∀ sm, sm ≠ recvS → ((levAts names level : sProp 𝕄) ⊢ MayWait (c : Thread nD τ) sm () (tallyAt (recvC (peer c)) () rowCredit)) :=
    fun sm h => mayWait_row c (peer c) sm h
  have hpp : peer (peer c) = c := peer_peer c
  iintro ⟨⟨⟨#HIb, #HIs, #HIr, #HIbp, #HIrp⟩, ⟨HatB, HatS, HatR, #HrB, #HrS, #HrR, HtB, HtS, HtR⟩, HcB, HcR, #Hlev, Hx, Hy,
    ⟨Hs0, Hs1, Hs2, Hs3, Hs4⟩, ⟨%f0, Hbuf⟩, ⟨%f1, Hacc⟩, ⟨%f2, Hsend⟩, Hrecv⟩, HO, HQ⟩
  -- the signal, the chunks, their sums, the barrier wait
  sl_exec (disch := first | decide | (simp only [peer_peer]; done))
  -- each load gave its chunk
  have e0 : run.sl.v37 xs c f0 = rowsFrom (xs c) 0 (by decide) := by
    delta run.sl.v37
    repeat (refine (load_other 0 _ _ _ ?_ _ _).trans ?_; decide)
    exact (load_same 0 _ _ _).trans (read_rows _ _ _ (xs c))
  have e1 : run.sl.v54 xs c f0 = rowsFrom (xs c) 512 (by decide) := by
    delta run.sl.v54
    repeat (refine (load_other 1 _ _ _ ?_ _ _).trans ?_; decide)
    exact (load_same 1 _ _ _).trans (read_rows _ _ _ (xs c))
  have e2 : run.sl.v73 xs c f0 = rowsFrom (xs c) 1024 (by decide) := by
    delta run.sl.v73
    repeat (refine (load_other 2 _ _ _ ?_ _ _).trans ?_; decide)
    exact (load_same 2 _ _ _).trans (read_rows _ _ _ (xs c))
  have e3 : run.sl.v92 xs c f0 = rowsFrom (xs c) 1536 (by decide) := by
    delta run.sl.v92
    repeat (refine (load_other 3 _ _ _ ?_ _ _).trans ?_; decide)
    exact (load_same 3 _ _ _).trans (read_rows _ _ _ (xs c))
  have e4 : run.sl.v111 xs c f0 = rowsFrom (xs c) 2048 (by decide) := by
    delta run.sl.v111
    repeat (refine (load_other 0 _ _ _ ?_ _ _).trans ?_; decide)
    exact (load_same 0 _ _ _).trans (read_rows _ _ _ (xs c))
  have e5 : run.sl.v125 xs c f0 = rowsFrom (xs c) 2560 (by decide) := by
    delta run.sl.v125
    repeat (refine (load_other 1 _ _ _ ?_ _ _).trans ?_; decide)
    exact (load_same 1 _ _ _).trans (read_rows _ _ _ (xs c))
  have e6 : run.sl.v139 xs c f0 = rowsFrom (xs c) 3072 (by decide) := by
    delta run.sl.v139
    repeat (refine (load_other 2 _ _ _ ?_ _ _).trans ?_; decide)
    exact (load_same 2 _ _ _).trans (read_rows _ _ _ (xs c))
  have e7 : run.sl.v153 xs c f0 = rowsFrom (xs c) 3584 (by decide) := by
    delta run.sl.v153
    repeat (refine (load_other 3 _ _ _ ?_ _ _).trans ?_; decide)
    exact (load_same 3 _ _ _).trans (read_rows _ _ _ (xs c))
  -- the accumulator after each chunk
  have a0 : run.sl.v58 xs c f0 = sumTo (xs c) 0 (by decide) := (View.readCov_cons_toLoadRect _ _ _ _).trans (congrArg k0_pay3 e0)
  have a1 : run.sl.v77 xs c f0 = sumTo (xs c) 1 (by decide) := (View.readCov_cons_toLoadRect _ _ _ _).trans (congrArg₂ k0_pay4 e1 a0)
  have a2 : run.sl.v96 xs c f0 = sumTo (xs c) 2 (by decide) := (View.readCov_cons_toLoadRect _ _ _ _).trans (congrArg₂ k0_pay5 e2 a1)
  have a3 : run.sl.v115 xs c f0 = sumTo (xs c) 3 (by decide) := (View.readCov_cons_toLoadRect _ _ _ _).trans (congrArg₂ k0_pay6 e3 a2)
  have a4 : run.sl.v129 xs c f0 = sumTo (xs c) 4 (by decide) := (View.readCov_cons_toLoadRect _ _ _ _).trans (congrArg₂ k0_pay7 e4 a3)
  have a5 : run.sl.v143 xs c f0 = sumTo (xs c) 5 (by decide) := (View.readCov_cons_toLoadRect _ _ _ _).trans (congrArg₂ k0_pay8 e5 a4)
  have a6 : run.sl.v157 xs c f0 = sumTo (xs c) 6 (by decide) := (View.readCov_cons_toLoadRect _ _ _ _).trans (congrArg₂ k0_pay9 e6 a5)
  have hrow : k0_pay1 (run.sl.v162 xs c f0) = rows xs c := congrArg k0_pay1 ((View.readCov_cons_toLoadRect _ _ _ _).trans (congrArg₂ k0_pay10 e7 a6))
  rw [write_send, hrow]
  unfold free
  icases HatB_pay1 with ⟨%fp, Hpeer⟩
  iapply (send_row xs K c (peer c) rfl fp _) $$ [Hsend Hpeer HO HtS HtR HatB_pay2]
  · isplitr; · iexact HIs
    isplitr; · iexact HIrp
    isplitl [Hsend]; · iexact Hsend
    isplitl [Hpeer]; · iexact Hpeer
    isplitl [HO]; · iexact HO
    isplitl [HtS]; · iexact HtS
    isplitr; · iexact HrS
    isplitl [HtR]; · iexact HtR
    iexact HatB_pay2
  iintro ⟨HcS, HO⟩
  sl_exec (disch := first | decide | (simp only [peer_peer]; done))
  imod (Rounds.cell_close EX (sched (rows xs)) (Set.mem_univ (K (c, 0))) (fun h => h) (R := 0 + 1) (duties_later (rows xs) (barC c))) $$ [HatB] with HzB
  · isplitr; · iexact HIb
    iexact HatB
  imod (Rounds.cell_close EX (sched (rows xs)) (Set.mem_univ (K (c, 1))) (fun h => h) (R := 0 + 1) (duties_later (rows xs) (sendC c))) $$ [HatS] with HzS
  · isplitr; · iexact HIs
    iexact HatS
  imod (Rounds.cell_close EX (sched (rows xs)) (Set.mem_univ (K (c, 2))) (fun h => h) (R := 0 + 1) (duties_later (rows xs) (recvC c))) $$ [HatR] with HzR
  · isplitr; · iexact HIr
    iexact HatR
  rw [wp_ret]; imodintro
  -- what was put out is the sum of the two rows
  have hout : run.sl.dma4 xs c f0 f1 = total xs c := by
    delta run.sl.dma4 run.sl.Hacc_9
    rw [load_send, load_recv, write_acc]
    rfl
  rw [hout, View.write_whole_univ]
  iapply HQ
  unfold after counters scratch free
  isplitr [HO]
  · isplitl [Hx]; · iexact Hx
    isplitl [Hy]; · iexact Hy
    isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    isplitl [HzS]; · iexact HzS
    isplitl [HzR]; · iexact HzR
    isplitl [HzB]; · iexact HzB
    isplitl [Hbuf]; · iexists _; iexact Hbuf
    isplitl [Hacc]; · iexists _; iexact Hacc
    isplitl [HatS_pay1]; · iexists _; iexact HatS_pay1
    iexists _; iexact HatR_pay1
  · iexists _; iexact HO

end Cert.ColSum
end
-- ==== Proof.Ghost.lean ====
/-
  What the launch gives each device before the body: the exchange's invariants and tokens, and the credit for the
  two units that its partner owes it.

  The three semaphores of the exchange on every device go into invariants in one step, which takes all devices at once:
  a device holds invariants of its partner's semaphores, and the tokens of the duties on a semaphore go to the device
  that has them.
-/
module

public import proofs.«01_k».proof.Proof.Body

@[expose] public section

noncomputable section

namespace Cert.ColSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ GA ℕ

variable (xs : Dev nD → FVec F S4096x1024 .f32) (K : Dev nD × Fin 3 → ℕ)

/-! ## The launch element -/

/-- All the cells of the exchange, by device and semaphore. -/
abbrev cellAt (ck : Dev nD × Fin 3) : GSem nD τ sig := cell ck.1 ck.2

theorem cellAt_inj : Function.Injective cellAt := fun ⟨c, k⟩ ⟨d, j⟩ h =>
  Prod.ext (congrArg (fun g : GSem nD τ sig => g.1.1) h) (xsem_inj (congrArg (fun g : GSem nD τ sig => g.2) h))

/-- The one duty of each cell. -/
abbrev dutyAt (ck : Dev nD × Fin 3) : GSem nD τ sig × ℕ × Unit := (cellAt ck, 0, ())

theorem dutyAt_inj : Function.Injective dutyAt := fun _ _ h => cellAt_inj (congrArg Prod.fst h)

def allCells : Finset (GSem nD τ sig) := Finset.univ.map ⟨cellAt, cellAt_inj⟩
def allDuties : Finset (GSem nD τ sig × ℕ × Unit) := Finset.univ.map ⟨dutyAt, dutyAt_inj⟩

/-- The ghost state at launch: the pipeline's, the exchange's, no counter yet. -/
def ghost₀ : GA :=
  (initOf (Pipeline.cells cfgs cellOf_inj) (Pipeline.launchToks cfgs cellOf_inj), (initOf allCells allDuties, 1))

theorem three (Φ : Fin 3 → sProp 𝕄) : bigSep Finset.univ Φ = iprop(Φ 0 ∗ Φ 1 ∗ Φ 2) :=
  bigSep_univ_eq_bigSepL [0, 1, 2] (by decide) (by decide) Φ

/-- The positions and marks of a device's three cells. -/
def marks (c : Dev nD) : sProp 𝕄 :=
  bigSep Finset.univ fun k : Fin 3 => iprop(atPos EX (cell c k) 0 ∅ 0 ∗ reached EX (cell c k) 0)
/-- The tokens of the duties on a device's three cells. -/
def duties (c : Dev nD) : sProp 𝕄 := bigSep Finset.univ fun k : Fin 3 => dutyTok EX (cell c k) 0 ()

/-- What the launch element is, device by device. -/
def dealt (c : Dev nD) : sProp 𝕄 :=
  iprop((bigSep Finset.univ fun k : Fin 3 => roundState EX (sched (rows xs)) (cell c k) 0) ∗ marks c ∗ duties c)

theorem deal : BI.own (EX (initOf allCells allDuties)) ⊢ (|==> bigSep Finset.univ (dealt xs) : sProp 𝕄) := by
  have hC (Φ : GSem nD τ sig → sProp 𝕄) :
      bigSep allCells Φ = bigSep Finset.univ fun c : Dev nD => bigSep Finset.univ fun k : Fin 3 => Φ (cell c k) := by
    unfold allCells; rw [bigSep_map, bigSep_univ_prod]; rfl
  have hD : bigSep allDuties (fun x => (dutyTok EX x.1 x.2.1 x.2.2 : sProp 𝕄)) = bigSep Finset.univ fun c : Dev nD => duties c := by
    unfold allDuties; rw [bigSep_map, bigSep_univ_prod]; rfl
  iintro H
  imod (Rounds.fund EX (sched (rows xs)) allCells allDuties) $$ H with ⟨HS, HR, HA, HD⟩
  imodintro
  ihave HS := (Entails.of_eq (hC fun g => roundState EX (sched (rows xs)) g 0)) $$ HS
  ihave HA := (Entails.of_eq (hC fun g => atPos EX g 0 ∅ 0)) $$ HA
  ihave HR := (Entails.of_eq (hC fun g => reached EX g 0)) $$ HR
  ihave HD := (Entails.of_eq hD) $$ HD
  unfold dealt marks; simp only [bigSep_sep']
  isplitl [HS]; · iexact HS
  isplitl [HA HR]
  · isplitl [HA] <;> iassumption
  iexact HD

/-! ## The semaphores at launch -/

/-- The launch's own semaphores at zero: the counters of the local copies, the send and the receive semaphore. -/
theorem own_sems (c : Dev nD) : (Pipeline.ownSems0 (Ix := Unit) (Name := ℕ) (U := GA) (Lvl := ℕ) (Val := Elt F) (τ := τ) osem c : sProp 𝕄)
    = iprop(semVal ((c : Thread nD τ), SemLoc.dma 0) 0 ∗ semVal ((c : Thread nD τ), SemLoc.dma 1) 0 ∗ semVal ((c : Thread nD τ), SemLoc.dma 2) 0
      ∗ semVal ((c : Thread nD τ), SemLoc.dma 3) 0 ∗ semVal ((c : Thread nD τ), SemLoc.dma 4) 0 ∗ semVal (sendC c) 0 ∗ semVal (recvC c) 0) := by
  rw [Pipeline.ownSems0_eq_of_list c osem [0, 1, 2, 3, 4, 5, 6] (by decide) (by decide)]; rfl

/-- The one semaphore outside the launch is the barrier. -/
theorem outer_sems (c : Dev nD) : (unscopedSems0 c : sProp 𝕄) = semVal (barC c) 0 := by
  unfold unscopedSems0; rw [bigSep_eq_bigSepL_of_eq [SemLoc.reg 0] (by decide) (by decide)]; rfl

/-- Of all of them the exchange takes three, and the counters stay. -/
theorem split_sems (c : Dev nD) :
    iprop(Pipeline.ownSems0 (Ix := Unit) (Name := ℕ) (U := GA) (Lvl := ℕ) (Val := Elt F) (τ := τ) osem c ∗ unscopedSems0 c)
      ⊢ (iprop((bigSep Finset.univ fun k : Fin 3 => semVal (cell c k) 0) ∗ counters c) : sProp 𝕄) := by
  rw [own_sems, outer_sems, three]; unfold counters
  iintro ⟨⟨H0, H1, H2, H3, H4, HS, HV⟩, HB⟩
  isplitl [HS HV HB]
  · isplitl [HB]; · iexact HB
    isplitl [HS]; · iexact HS
    iexact HV
  isplitl [H0]; · iexact H0
  isplitl [H1]; · iexact H1
  isplitl [H2]; · iexact H2
  isplitl [H3] <;> iassumption

/-! ## The invariants of all devices -/

/-- Each device's three cells go into invariants. -/
theorem alloc (c : Dev nD) :
    iprop(Pipeline.ownSems0 (Ix := Unit) (Name := ℕ) (U := GA) (Lvl := ℕ) (Val := Elt F) (τ := τ) osem c ∗ unscopedSems0 c ∗ dealt xs c)
      ⊢ |={Set.univ}=> iprop((bigSep Finset.univ fun k : Fin 3 => iprop(∃ κ : ℕ, cellInv EX (sched (rows xs)) κ (cell c k)))
          ∗ marks c ∗ duties c ∗ counters c) := by
  have hone : iprop((bigSep Finset.univ fun k : Fin 3 => semVal (cell c k) 0) ∗ bigSep Finset.univ fun k : Fin 3 => roundState EX (sched (rows xs)) (cell c k) 0)
      ⊢ (|={Set.univ}=> bigSep Finset.univ fun k : Fin 3 => iprop(∃ κ : ℕ, cellInv EX (sched (rows xs)) κ (cell c k)) : sProp 𝕄) := by
    rw [← bigSep_sep']
    exact (bigSep_mono fun k _ => (Rounds.body_intro EX (sched (rows xs)) (cell c k)).trans inv_alloc).trans (bigSep_fupd _ _)
  unfold dealt
  iintro ⟨Ho, Hu, HR, HM, HD⟩
  ihave H := (split_sems (F := F) c) $$ [Ho Hu]
  · isplitl [Ho] <;> iassumption
  icases H with ⟨Hz, Hc⟩
  imod (hone) $$ [Hz HR] with HI
  · isplitl [Hz] <;> iassumption
  imodintro
  isplitl [HI]; · iexact HI
  isplitl [HM]; · iexact HM
  isplitl [HD] <;> iassumption

/-- All the invariants, under the names `K`, and the marks of all cells. -/
def records : sProp 𝕄 :=
  iprop((bigSep Finset.univ fun ck : Dev nD × Fin 3 => cellInv EX (sched (rows xs)) (K ck) (cellAt ck))
    ∗ bigSep Finset.univ fun ck : Dev nD × Fin 3 => reached EX (cellAt ck) 0)

instance : BI.Persistent (records xs K) := by unfold records; infer_instance

theorem inv_of (ck : Dev nD × Fin 3) :
    (bigSep Finset.univ fun ck : Dev nD × Fin 3 => (cellInv EX (sched (rows xs)) (K ck) (cellAt ck) : sProp 𝕄)) ⊢ cellInv EX (sched (rows xs)) (K ck) (cellAt ck) :=
  bigSep_elim (Finset.mem_univ ck)
theorem mark_of (ck : Dev nD × Fin 3) :
    (bigSep Finset.univ fun ck : Dev nD × Fin 3 => (reached EX (cellAt ck) 0 : sProp 𝕄)) ⊢ reached EX (cellAt ck) 0 :=
  bigSep_elim (Finset.mem_univ ck)

/-- The tokens of the duties a device has: at its partner's barrier, its own send, its partner's receive. -/
def own (c : Dev nD) : sProp 𝕄 :=
  iprop(dutyTok EX (barC (peer c)) 0 () ∗ dutyTok EX (sendC c) 0 () ∗ dutyTok EX (recvC (peer c)) 0 ())

/-- What a device has of the exchange at the start, and its counters. -/
def given (c : Dev nD) : sProp 𝕄 := iprop((∃ K, invs xs K c ∗ toks c) ∗ counters c)

/-- From the records and what is the device's alone, what it has at the start. -/
theorem give (c : Dev nD) :
    iprop(records xs K ∗ (bigSep Finset.univ fun k : Fin 3 => (atPos EX (cell c k) 0 ∅ 0 : sProp 𝕄)) ∗ own c ∗ counters c) ⊢ given xs c := by
  rw [three]; unfold records own given invs toks
  iintro ⟨⟨#HI, #HR⟩, ⟨HaB, HaS, HaV⟩, ⟨HtB, HtS, HtV⟩, Hc⟩
  isplitr [Hc]
  · iexists K
    isplitr
    · isplitr; · iapply (inv_of xs K (c, 0)); iexact HI
      isplitr; · iapply (inv_of xs K (c, 1)); iexact HI
      isplitr; · iapply (inv_of xs K (c, 2)); iexact HI
      isplitr; · iapply (inv_of xs K (peer c, 0)); iexact HI
      iapply (inv_of xs K (peer c, 2)); iexact HI
    isplitl [HaB]; · iexact HaB
    isplitl [HaS]; · iexact HaS
    isplitl [HaV]; · iexact HaV
    isplitr; · iapply (mark_of (F := F) (peer c, 0)); iexact HR
    isplitr; · iapply (mark_of (F := F) (c, 1)); iexact HR
    isplitr; · iapply (mark_of (F := F) (c, 2)); iexact HR
    isplitl [HtB]; · iexact HtB
    isplitl [HtS] <;> iassumption
  · iexact Hc

/-- The tokens go to the devices that have the duties: barrier and receive tokens to the partner. -/
theorem swap : (bigSep Finset.univ fun c : Dev nD => (duties c : sProp 𝕄)) ⊢ bigSep Finset.univ fun c : Dev nD => own c := by
  have h : (fun c : Dev nD => (duties c : sProp 𝕄)) = fun c => iprop(dutyTok EX (barC c) 0 () ∗ dutyTok EX (sendC c) 0 () ∗ dutyTok EX (recvC c) 0 ()) :=
    funext fun c => three _
  rw [h]; unfold own
  rw [bigSep_sep', bigSep_sep', bigSep_sep', bigSep_sep',
    bigSep_univ_equiv partners (fun c : Dev nD => (dutyTok EX (barC c) 0 () : sProp 𝕄)),
    bigSep_univ_equiv partners (fun c : Dev nD => (dutyTok EX (recvC c) 0 () : sProp 𝕄))]
  exact Entails.refl _

/-- The invariants of all devices collected, and every device given its part. -/
theorem share :
    (bigSep Finset.univ fun c : Dev nD => iprop((bigSep Finset.univ fun k : Fin 3 => iprop(∃ κ : ℕ, cellInv EX (sched (rows xs)) κ (cell c k)))
          ∗ marks c ∗ duties c ∗ counters c) : sProp 𝕄)
      ⊢ bigSep Finset.univ (given xs) := by
  have hm : (bigSep Finset.univ fun c : Dev nD => (marks c : sProp 𝕄))
      = iprop((bigSep Finset.univ fun c : Dev nD => bigSep Finset.univ fun k : Fin 3 => atPos EX (cell c k) 0 ∅ 0)
          ∗ bigSep Finset.univ fun ck : Dev nD × Fin 3 => reached EX (cellAt ck) 0) := by
    unfold marks
    rw [bigSep_congr (s := Finset.univ) (fun (c : Dev nD) _ => bigSep_sep' Finset.univ (fun k : Fin 3 => (atPos EX (cell c k) 0 ∅ 0 : sProp 𝕄)) (fun k => reached EX (cell c k) 0)),
      bigSep_sep', ← bigSep_univ_prod (fun ck : Dev nD × Fin 3 => (reached EX (cellAt ck) 0 : sProp 𝕄))]
  rw [bigSep_sep', bigSep_sep', bigSep_sep', hm, ← bigSep_univ_prod (fun ck : Dev nD × Fin 3 => iprop(∃ κ : ℕ, cellInv EX (sched (rows xs)) κ (cellAt ck)))]
  iintro ⟨HI, ⟨HA, #HR⟩, HD, HC⟩
  ihave HK := (BI.bigSep_exists_pi Finset.univ (fun (ck : Dev nD × Fin 3) (κ : ℕ) => (cellInv EX (sched (rows xs)) κ (cellAt ck) : sProp 𝕄))) $$ HI
  icases HK with ⟨%K, #HI⟩
  ihave HD := (swap (F := F)) $$ HD
  iapply (BI.bigSep_with_persistent (R := records xs K) fun c _ => give xs K c)
  isplitr
  · unfold records; isplitl; · iexact HI
    iexact HR
  rw [bigSep_sep', bigSep_sep']
  isplitl [HA]; · iexact HA
  isplitl [HD] <;> iassumption

/-- The step that takes all devices at once. -/
theorem setup : (bigSep Finset.univ fun c => iprop(Pipeline.ownSems0 (Ix := Unit) (Name := ℕ) (U := GA) (Lvl := ℕ) (Val := Elt F) (τ := τ) osem c ∗ unscopedSems0 c ∗ dealt xs c) : sProp 𝕄)
    ⊢ |={Set.univ}=> bigSep Finset.univ (given xs) :=
  ((bigSep_mono fun c _ => alloc xs c).trans (bigSep_fupd _ _)).trans (BI.fupd_mono (share xs))

/-! ## The credit at launch -/

theorem cell_eq_iff {a b : Dev nD} (k : Fin 3) : cell a k = cell b k ↔ a = b :=
  ⟨fun h => congrArg (fun g : GSem nD τ sig => g.1.1) h, fun h => h ▸ rfl⟩

theorem bar_eq_iff {a b : Dev nD} : barC a = barC b ↔ a = b := cell_eq_iff 0
theorem recv_eq_iff {a b : Dev nD} : recvC a = recvC b ↔ a = b := cell_eq_iff 2
theorem bar_ne_recv {a b : Dev nD} : barC a ≠ recvC b := fun h => (by decide : barS ≠ recvS) (congrArg (fun g : GSem nD τ sig => g.2) h)

theorem peer_eq_iff {a b : Dev nD} : a = peer b ↔ b = peer a :=
  ⟨fun h => by rw [h, peer_peer], fun h => by rw [h, peer_peer]⟩

/-- Only the partner owes a device's barrier, and it owes one unit. -/
theorem debt_bar (d c : Dev nD) : debt d (barC c) () = if d = peer c then 1 else 0 := by
  unfold debt
  rw [Pi.add_apply, Finsupp.add_apply, tallyAt_ne_cell bar_ne_recv, tallyAt_apply,
    Finsupp.zero_apply, Nat.zero_add]
  exact if_congr (by rw [and_iff_left rfl, bar_eq_iff]; exact peer_eq_iff) rfl rfl

/-- Only the partner owes a device's receive semaphore, and it owes a row. -/
theorem debt_recv (d c : Dev nD) : debt d (recvC c) () = if d = peer c then rowCredit else 0 := by
  unfold debt
  rw [Pi.add_apply, Finsupp.add_apply, tallyAt_apply, tallyAt_ne_cell bar_ne_recv.symm,
    Finsupp.zero_apply, Nat.add_zero]
  exact if_congr (by rw [and_iff_left rfl, recv_eq_iff]; exact peer_eq_iff) rfl rfl

/-- The credit of one cell at launch is what the partner owes it. -/
theorem credit_of (c : Dev nD) (k : Fin 3) (n : ℕ) (h : ∀ d, debt d (cell c k) () = if d = peer c then n else 0) :
    tallyOn (cell c k) (launchCredit (Pipeline.owing debt) 0 (cell c k)) = (tallyAt (cell c k) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

theorem credit_bar (c : Dev nD) :
    tallyOn (barC c) (launchCredit (Pipeline.owing debt) 0 (barC c)) = (tallyAt (barC c) () 1 : CellTallies nD τ sig Unit) :=
  credit_of c 0 1 (debt_bar · c)
theorem credit_recv (c : Dev nD) :
    tallyOn (recvC c) (launchCredit (Pipeline.owing debt) 0 (recvC c)) = (tallyAt (recvC c) () rowCredit : CellTallies nD τ sig Unit) :=
  credit_of c 2 rowCredit (debt_recv · c)

/-- Each device starts with the credit for its barrier's unit and for its partner's row. -/
theorem credits (c : Dev nD) :
    (Pipeline.launchCred debt c : sProp 𝕄) ⊢ iprop(cred (tallyAt (barC c) () 1) ∗ cred (tallyAt (recvC c) () rowCredit)) := by
  unfold Pipeline.launchCred
  rw [bigSep_univ_at _ barS, credit_bar]
  refine sep_mono_right ?_
  rw [← credit_recv]
  exact bigSep_elim (Finset.mem_erase.mpr ⟨by decide, Finset.mem_univ _⟩)

end Cert.ColSum

end
-- ==== Proof.Launch.lean ====
/-
  The whole program: all four devices run the body, and every run ends with the sums in the output arrays, the inputs
  as they were and every semaphore at zero.
-/
module

public import proofs.«01_k».proof.Proof.Ghost
public import Idealize.ShloMosaic.Lib.Pipeline.CollectiveSegs

@[expose] public section

noncomputable section

namespace Cert.ColSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ GA ℕ

variable (m : (ℓ : Loc nD τ sig) → Buf (Elt F) ℓ) (g : Dev nD → PrngReg)

/-- The input blocks. -/
def blocks (c : Dev nD) : FVec F S4096x1024 .f32 := m ((c : Thread nD τ).loc main_arg0)
/-- What the output arrays hold at first. -/
def outs (c : Dev nD) : FVec F S1x1024 .f32 := m ((c : Thread nD τ).loc main_v1)

/-- What a device has at the start beside its scratch buffers. -/
def start (c : Dev nD) : sProp 𝕄 :=
  iprop(given (blocks m) c ∗ cred (tallyAt (barC c) () 1) ∗ cred (tallyAt (recvC c) () rowCredit) ∗ levAts names level
    ∗ pts c inM (blocks m c) ∗ pts c outM (outs m c))

/-- What it leaves behind beside its scratch buffers and its semaphores. -/
def left (c : Dev nD) : sProp 𝕄 :=
  iprop(pts c inM (blocks m c) ∗ pts c outM (total (blocks m) c) ∗ unscopedSems0 c)

/-- No array is staged: only what is held around the one point, and the debt. -/
def dats (_ : Fin 1) (c : Dev nD) : Dat τ (Elt F) Unit ℕ GA ℕ cfg0 c where
  A w := w.elim0
  after w _ := w.elim0
  Φ t := match t with
    | ⟨0, _⟩ => iprop(start m c ∗ scratch c)
    | ⟨_ + 1, _⟩ => after (blocks m) c
  q _ := fullShare
  owed t := match t with
    | ⟨0, _⟩ => debt c
    | ⟨_ + 1, _⟩ => 0

theorem no_window (Φ : Fin cfg0.W → sProp 𝕄) : bigSep Finset.univ Φ = iprop(emp) :=
  (congrArg (fun s => bigSep s Φ) (Finset.univ_eq_empty (α := Fin 0))).trans bigSep_empty

/-- The body at its one point. -/
theorem body_point (c : Dev nD) : BodyObligation (dats (F := F) m 0 c) (defs₀ (F := F)) Variants.none () Set.univ := fun t => by
  rw [fin_N0 t, no_window, no_window]
  show iprop((start m c ∗ scratch c) ∗ (dats m 0 c).owesAt () t0_0.castSucc ∗ emp)
    ⊢ wp frame (wpE (defs₀ (F := F)) Variants.none (c : Thread nD τ) none) Set.univ
          (cc0_body inM (Memref.isWhole_whole _) outM (Memref.isWhole_whole _) bufM (Memref.isWhole_whole _) accM (Memref.isWhole_whole _)
            sendM (Memref.isWhole_whole _) recvM (Memref.isWhole_whole _) cc0_scratch4 cc0_scratch5 cc0_scratch6 cc0_scratch7)
          (fun _ => iprop(after (blocks m) c ∗ (dats m 0 c).owesAt () t0_0.succ ∗ emp))
  unfold Dat.owesAt Pipeline.owesWithin start given
  rw [show (dats m 0 c).owed t0_0.castSucc = debt c from rfl, show (dats m 0 c).owed t0_0.succ = 0 from rfl]
  iintro ⟨⟨⟨⟨⟨%K, Hinv, Htok⟩, Hcnt⟩, HcB, HcV, Hlev, Hin, Hout⟩, Hscr⟩, ⟨%W, %hW, HO⟩, -⟩
  iapply (run (blocks m) K c (outs m) W _)
  unfold before
  isplitr [HO]
  · isplitl [Hinv]; · iexact Hinv
    isplitl [Htok]; · iexact Htok
    isplitl [HcB]; · iexact HcB
    isplitl [HcV]; · iexact HcV
    isplitl [Hlev]; · iexact Hlev
    isplitl [Hin]; · iexact Hin
    isplitl [Hout]; · iexact Hout
    isplitl [Hcnt] <;> iassumption
  isplitl [HO]; · iexact HO
  iintro ⟨Hafter, ⟨%W', HO⟩⟩
  isplitl [Hafter]; · iexact Hafter
  isplitl [HO]
  · iexists W'
    isplitr; · ipureintro; exact fun _ _ => Or.inl trivial
    iexact HO
  iempintro

/-! ## The launch -/

theorem ownSemFacts : Pipeline.OwnSemFacts cfg0.spec osem := by decide

theorem start_of (c : Dev nD) :
    iprop(Pipeline.unscopedRestP Pipeline.Prefetch.none cfg0.spec c (fun b => m ((c : Thread nD τ).loc b)) ∗ levAts names level
        ∗ Pipeline.launchCred debt c ∗ prngReg c (g c) ∗ given (blocks m) c)
      ⊢ |={Set.univ}=> iprop(start m c ∗ emp) := by
  rw [Pipeline.unscopedRestP_none, unscopedRest0_eq]
  iintro ⟨⟨Hin, Hout⟩, Hlev, Hcr, -, HG⟩
  ihave Hc := (credits (F := F) c) $$ Hcr
  icases Hc with ⟨HB, HV⟩
  imodintro
  unfold start
  isplitl
  · isplitl [HG]; · iexact HG
    isplitl [HB]; · iexact HB
    isplitl [HV]; · iexact HV
    isplitl [Hlev]; · iexact Hlev
    isplitl [Hin]; · iexact Hin
    iexact Hout
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  iintro ⟨Hs, -, Hr⟩
  isplitl [Hs]; · iexact Hs
  unfold scratch free
  iexact Hr

theorem leave (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = after (blocks m) c from rfl, scopedRest0_eq, own_sems]
  unfold after left counters scratch free
  rw [outer_sems]
  iintro ⟨Hin, Hout, ⟨H0, H1, H2, H3, H4⟩, HS, HV, HB, Hr⟩
  isplitl [Hin Hout HB]
  · isplitl [Hin]; · iexact Hin
    isplitl [Hout] <;> iassumption
  isplitl [H0 H1 H2 H3 H4 HS HV]
  · isplitl [H0]; · iexact H0
    isplitl [H1]; · iexact H1
    isplitl [H2]; · iexact H2
    isplitl [H3]; · iexact H3
    isplitl [H4]; · iexact H4
    isplitl [HS] <;> iassumption
  iexact Hr

theorem waits (c : Dev nD) : (levAts names level : sProp 𝕄) ⊢ Pipeline.cellsWaits cfgs (dats m) () 0 c :=
  Pipeline.cellsWaits_intro cfgs (dats m) () 0 c fun w => w.elim0

/-- What a device's memory and outer semaphores are at the end. -/
def atEnd (c : Dev nD) (s : MemSt nD τ sig (Elt F)) : Prop :=
  (s.mem ((c : Thread nD τ).loc main_v1) = total (blocks m) c ∧ s.mem ((c : Thread nD τ).loc main_arg0) = m ((c : Thread nD τ).loc main_arg0))
    ∧ ∀ sm : SemLoc sig, sm.isScoped .tc = false → s.sem ((c : Thread nD τ), sm) = 0

/-- What a device leaves behind is what the final state has. -/
theorem read_end (c : Dev nD) (s' : Phys nD τ sig (Elt F)) :
    iprop(left m c ∗ emp ∗ SI s') ⊢ (|={Set.univ}=> iprop(⌜atEnd m c s'.mem⌝ ∗ SI s') : sProp 𝕄) := by
  unfold left
  iintro ⟨⟨Hin, Hout, Hu⟩, -, HSI⟩
  icombine HSI Hin gives %hin
  icombine HSI Hout gives %hout
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ hout, Buf.eq_of_forall_mem_univ hin⟩, hs⟩
  iexact HSI

set_option maxRecDepth 8000 in
/-- For any float values, from any memory with the semaphores at zero: every run of the program on the four devices
    ends, each output array holding the device's sums, each input as it was, every semaphore at zero. -/
theorem run_main : θ_run defs (onTc (τ := τ) (main (F := F))) ⟨m, fun _ => 0, g⟩ (fun r =>
    (∀ c : Dev nD, r.2.mem ((c : Thread nD τ).loc main_v1) = total (blocks m) c
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m g main
    (hmain := fun _ => rfl)
    (hbody := body_point m) (hne := fun w => w.elim0) (harr := arr_whole0) (hstage := stage_whole0) (hshare := fun _ w => w.elim0)
    (hdistinct := winFacts0.arr_inj)
    (O₀ := debt) (howed₀ := fun _ => rfl) (howedN := fun _ => rfl)
    (L := names) (lv := level) (hL := names_off) (hwaits := waits m)
    (G := dealt (blocks m)) (G' := given (blocks m)) (u₀ := ghost₀)
    (hu₀ := by
      unfold ghost₀
      iintro Hu
      ihave H := (ownU_pair _ _) $$ Hu
      icases H with ⟨HP, HR⟩
      ihave H := (own_pair_emb embR _ _) $$ HR
      icases H with ⟨HX, -⟩
      imod (deal (blocks m)) $$ HX with HG
      imodintro
      isplitl [HP] <;> iassumption)
    (hglob := setup (blocks m))
    (hA := fun _ w => w.elim0) (hpf := fun _ k => k.elim0)
    (X := start m) (Y := left m) (Z := fun _ => iprop(emp))
    (hX := start_of m g) (hin := enter m) (hout := leave m)
    (QY := atEnd m) (hY := read_end m)
    (hQ := fun _ h hs => ⟨fun c => (h c).2.2.1, sem_eq_zero hs fun c => (h c).2.2.2⟩)

end Cert.ColSum

end
-- ==== Proof.Sums.lean ====
/-
  What a device's row is, with exact addition: at column `l` it is the sum of the device's 4096 rows.

  Columns are summed over ranges of natural numbers, a row beyond the array counting as zero, so that the sum over
  one more chunk is the sum over a longer range.
-/
module

public import proofs.«01_k».proof.Proof.Body
public import Idealize.ShloMosaic.Lib.ValueIdx
public import Idealize.ShloMosaic.Lib.Pointwise

@[expose] public section

noncomputable section

namespace Cert.ColSum

open Cert.KernelIdeal Cert.KernelIdeal.Gen
open Idealize.ShloMosaic
open scoped BigOperators

/-- Column `l` of an array of `n` rows, zero beyond the rows. -/
def column {n k : ℕ} (x : (⟨2, ![n, k]⟩ : Shape).Idx → EReal) (l : Fin k) (r : ℕ) : EReal :=
  if h : r < n then x (ix2 ⟨r, h⟩ l) else 0

theorem column_of_lt {n k : ℕ} (x : (⟨2, ![n, k]⟩ : Shape).Idx → EReal) (l : Fin k) {r : ℕ} (h : r < n) :
    column x l r = x (ix2 ⟨r, h⟩ l) := dif_pos h

/-- The column sums of one chunk, as a row. -/
theorem chunk_sum (v : FVec Ideal S1x512x1024 .f32) (i : S1x1024.Idx) :
    k0_pay3 (F := Ideal) v i = ∑ r : Fin 512, v (ix3 0 r (i 1)) := by
  unfold k0_pay3
  dsimp only
  rw [shapeCast_self]
  refine (shapeCast_apply (t := S1x1024) _ _ i (ix1 (i 1) : S1024.Idx) ?_).trans ?_
  · rw [Shape.rowMajor_val_one, Shape.rowMajor_val_two]
    show (i 1).val = (i 0).val * 1024 + (i 1).val
    have h0 : (i 0).val < 1 := (i 0).isLt
    omega
  refine (Ideal.reduceAdd_r2_a0 reduces_S512x1024_S1024 _ _).trans (Finset.sum_congr rfl fun r _ => ?_)
  refine shapeCast_apply v _ _ (ix3 0 r (i 1)) ?_
  rw [Shape.rowMajor_val_three, Shape.rowMajor_val_two]
  show (0 * 512 + r.val) * 1024 + (i 1).val = r.val * 1024 + (i 1).val
  omega

/-- A further chunk adds its column sums. -/
theorem chunk_add (v : FVec Ideal S1x512x1024 .f32) (s : FVec Ideal S1x1024 .f32) (i : S1x1024.Idx) :
    k0_pay4 (F := Ideal) v s i = s i + k0_pay3 (F := Ideal) v i := by
  unfold k0_pay4 k0_pay3
  dsimp only
  rw [shapeCast_self, shapeCast_self]
  rfl

/-- The column sums of the chunk from row `o` are the sums of the column over these rows. -/
theorem rows_sum (x : FVec Ideal S4096x1024 .f32) (o : ℕ) (ho : o + 512 ≤ 4096) (i : S1x1024.Idx) :
    k0_pay3 (F := Ideal) (rowsFrom x o ho) i = ∑ r ∈ Finset.range 512, column x (i 1) (o + r) := by
  rw [chunk_sum, Finset.sum_range]
  refine Finset.sum_congr rfl fun r _ => ?_
  rw [column_of_lt x (i 1) (show o + r.val < 4096 by have := r.isLt; omega)]
  rfl

/-- After chunk `k` the running row is the sum over the first `512 (k + 1)` rows. -/
theorem sumTo_eq (x : FVec Ideal S4096x1024 .f32) (i : S1x1024.Idx) :
    ∀ (k : ℕ) (h : k < 8), sumTo x k h i = ∑ r ∈ Finset.range (512 * (k + 1)), column x (i 1) r
  | 0, _ => by
    unfold sumTo
    rw [rows_sum]
    exact Finset.sum_congr rfl fun r _ => by rw [Nat.zero_add]
  | k + 1, h => by
    unfold sumTo
    rw [chunk_add, sumTo_eq x i k (by omega), rows_sum, Nat.mul_succ 512 (k + 1), Finset.sum_range_add]

/-- A device's row is the column sums of its block. -/
theorem ownRow_eq (x : FVec Ideal S4096x1024 .f32) (i : S1x1024.Idx) :
    ownRow x i = ∑ r ∈ Finset.range 4096, column x (i 1) r := by
  have h : ownRow x = sumTo x 7 (by decide) := by
    unfold ownRow k0_pay1; exact shapeCast_self _ _
  rw [h, sumTo_eq]

/-- The row a device puts out is the column sums of its own block and of its partner's. -/
theorem total_eq (xs : Dev nD → FVec Ideal S4096x1024 .f32) (c : Dev nD) (i : S1x1024.Idx) :
    total xs c i = ∑ r ∈ Finset.range 4096, column (xs c) (i 1) r + ∑ r ∈ Finset.range 4096, column (xs (peer c)) (i 1) r := by
  have h : total xs c = addf (ownRow (xs c)) (ownRow (xs (peer c))) := by
    unfold total k0_pay2; exact shapeCast_self _ _
  rw [h, ValueIdx.addf_apply, ownRow_eq, ownRow_eq]

end Cert.ColSum

end
-- ==== Proof.Reference.lean ====
/-
  The kernel's result is the reference's: each device's row is its part of the column sums of the whole array.

  The reference sums the 8192 rows of a column. Devices `(0, y)` and `(1, y)` hold the first and the last 4096 rows of
  the columns from `1024 y` on, and each adds the two halves, its own first.
-/
module

public import proofs.«01_k».proof.Proof.Sums
public import proofs.«01_k».proof.Proof.Gen.ReferenceIdeal
public import proofs.«01_k».proof.Proof.Gen.ReferenceIdeal.Run
public import Idealize.ShloMosaic.Lib.IdealHost
public import Idealize.ShloMosaic.Lib.Layout

@[expose] public section

noncomputable section

namespace Cert.ColSum

open Idealize.ShloMosaic
open scoped BigOperators

/-- A vector as a row, read at an index. -/
theorem row_apply {n : ℕ} {α : Type} (hn : n ≠ 1) (h : (⟨1, ![n]⟩ : Shape).BroadcastsInDim ⟨2, ![1, n]⟩ ![1]) (x : (⟨1, ![n]⟩ : Shape).Idx → α)
    (j : (⟨2, ![1, n]⟩ : Shape).Idx) : broadcastInDim ⟨2, ![1, n]⟩ ![1] h x j = x (ix1 (j 1)) :=
  broadcastInDim_apply ![1] h x j (ix1 (j 1)) fun a => by
    fin_cases a
    exact (if_neg hn).symm

/-- Where an element of a block is in the whole array. -/
theorem block_idx {a b A B : ℕ} {k : Fin 2 → ℕ} (h : Layout.TilesN ⟨2, ![a, b]⟩ ⟨2, ![A, B]⟩ k) (j : (d : Fin 2) → Fin (k d)) (r : Fin a) (l : Fin b)
    (R : Fin A) (C : Fin B) (hr : R.val = (j 0).val * a + r.val) (hc : C.val = (j 1).val * b + l.val) : h.idx j (ix2 r l) = ix2 R C := by
  funext d
  refine Fin.ext ?_
  rw [Layout.TilesN.idx_val]
  fin_cases d
  · exact hr.symm
  · exact hc.symm

/-- The whole array. -/
abbrev Whole : Type := FVec Ideal Cert.ReferenceIdeal.S8192x2048 .f32

/-- The reference's result: the column sums from zero, as one row. -/
abbrev result (X : Whole) : FVec Ideal Cert.ReferenceIdeal.S1x2048 .f32 :=
  broadcastInDim Cert.ReferenceIdeal.S1x2048 ![1] Cert.ReferenceIdeal.Gen.bcast_S2048_S1x2048_1
    (Host.reduceAdd X (constant Cert.ReferenceIdeal.S_ .f32 0x00000000#32) Cert.ReferenceIdeal.Gen.reducesTo_S8192x2048_S2048_d0
      Cert.ReferenceIdeal.Gen.h_S_)

/-- The reference's result at a column is the sum of the column. -/
theorem result_eq (X : Whole) (j : Cert.ReferenceIdeal.S1x2048.Idx) :
    result X j = ∑ r ∈ Finset.range 8192, column X (j 1) r := by
  refine (row_apply (by decide) _ _ j).trans ?_
  refine (Ideal.hostReduceAdd_r2_a0 Cert.ReferenceIdeal.Gen.reducesTo_S8192x2048_S2048_d0 X _ _).trans ?_
  refine (congrArg (· + _) (show _ = (0 : EReal) from Ideal.ofBits_zero_f32)).trans ((zero_add _).trans ?_)
  refine ((Finset.sum_range (column X (j 1))).trans (Finset.sum_congr rfl fun r _ => ?_)).symm
  exact column_of_lt X (j 1) r.isLt

open Cert.KernelIdeal (nD)

/-- The block of device `c` in the whole array. -/
abbrev blockOf (c : Dev nD) (X : Whole) : FVec Ideal Cert.KernelIdeal.S4096x1024 .f32 :=
  Layout.blockN ⟨2, ![4096, 1024]⟩ ⟨2, ![8192, 2048]⟩ (Layout.meshBlock [2, 2] ![[0], [1]] c) X

/-- The column of the whole array that column `l` of device `c` is part of. -/
abbrev globalCol (c : Dev nD) (l : Fin 1024) : Fin 2048 := ⟨1024 * (c.val % 2) + l.val, by omega⟩

/-- Device `c` is at `(c / 2, c % 2)` in the mesh: its block of the array, -/
theorem mesh_in (c : Dev nD) :
    ((Layout.meshBlock [2, 2] ![[0], [1]] c) 0).val = c.val / 2 ∧ ((Layout.meshBlock [2, 2] ![[0], [1]] c) 1).val = c.val % 2 := by
  revert c; decide
/-- and of the result. -/
theorem mesh_out (c : Dev nD) : ((Layout.meshBlock [2, 2] ![[], [1]] c) 1).val = c.val % 2 := by
  revert c; decide

theorem mesh_out₀ (c : Dev nD) : ((Layout.meshBlock [2, 2] ![[], [1]] c) 0).val = 0 := rfl

/-- A column of a block is the part of the whole column from row `4096 (c / 2)` on. -/
theorem column_block (c : Dev nD) (X : Whole) (l : Fin 1024) {r : ℕ} (h : r < 4096) :
    column (blockOf c X) l r = column X (globalCol c l) (4096 * (c.val / 2) + r) := by
  have hc : c.val < 4 := c.isLt
  rw [column_of_lt _ l h, column_of_lt X (globalCol c l) (show 4096 * (c.val / 2) + r < 8192 by omega)]
  exact congrArg X (block_idx _ _ _ l _ _ (congrArg (· + r) ((Nat.mul_comm _ _).trans (congrArg (· * 4096) (mesh_in c).1.symm)))
    (congrArg (· + l.val) ((Nat.mul_comm _ _).trans (congrArg (· * 1024) (mesh_in c).2.symm))))

/-- So its sum is the sum of these rows of the whole column. -/
theorem block_sum (c : Dev nD) (X : Whole) (l : Fin 1024) :
    ∑ r ∈ Finset.range 4096, column (blockOf c X) l r = ∑ r ∈ Finset.range 4096, column X (globalCol c l) (4096 * (c.val / 2) + r) :=
  Finset.sum_congr rfl fun _ hr => column_block c X l (Finset.mem_range.mp hr)

/-- A device and its partner have the same columns, -/
theorem peer_col (c : Dev nD) (l : Fin 1024) : globalCol (peer c) l = globalCol c l := by
  have h : (peer c).val % 2 = c.val % 2 := by revert c; decide
  exact Fin.ext (by show 1024 * ((peer c).val % 2) + l.val = 1024 * (c.val % 2) + l.val; rw [h])

/-- and of the two one has the first half of the rows, the other the second. -/
theorem halves (c : Dev nD) : (c.val / 2 = 0 ∧ (peer c).val / 2 = 1) ∨ (c.val / 2 = 1 ∧ (peer c).val / 2 = 0) := by
  revert c; decide

/-- The sum of a whole column is the sum of its two halves. -/
theorem whole_sum (f : ℕ → EReal) :
    ∑ r ∈ Finset.range 8192, f r = ∑ r ∈ Finset.range 4096, f (4096 * 0 + r) + ∑ r ∈ Finset.range 4096, f (4096 * 1 + r) :=
  (Finset.sum_range_add f 4096 4096).trans (congrArg₂ (· + ·) (Finset.sum_congr rfl fun r _ => by rw [Nat.mul_zero, Nat.zero_add]) rfl)

/-- Where the input blocks are the parts of a whole array, the row a device puts out is its part of the reference's
    result. -/
theorem total_is_result (X : Whole) (xs : Dev nD → FVec Ideal Cert.KernelIdeal.S4096x1024 .f32) (h : ∀ c, xs c = blockOf c X) (c : Dev nD) :
    total xs c = Layout.blockN ⟨2, ![1, 1024]⟩ ⟨2, ![1, 2048]⟩ (Layout.meshBlock [2, 2] ![[], [1]] c) (result X) := by
  funext i
  obtain ⟨z, l, rfl⟩ : ∃ (z : Fin 1) (l : Fin 1024), i = ix2 z l := ⟨i 0, i 1, ValueIdx.eq_ix2 i⟩
  have hz : z.val = 0 := Nat.lt_one_iff.mp z.isLt
  have hi : (Layout.blockN ⟨2, ![1, 1024]⟩ ⟨2, ![1, 2048]⟩ (Layout.meshBlock [2, 2] ![[], [1]] c) (result X) : (⟨2, ![1, 1024]⟩ : Shape).Idx → EReal) (ix2 z l) = result X (ix2 0 (globalCol c l)) :=
    congrArg (result X) (block_idx _ _ z l 0 (globalCol c l) (by rw [hz, mesh_out₀ c]; rfl)
      (congrArg (· + l.val) ((Nat.mul_comm _ _).trans (congrArg (· * 1024) (mesh_out c).symm))))
  rw [hi, result_eq, total_eq, h c, h (peer c)]
  show ∑ r ∈ Finset.range 4096, column (blockOf c X) l r + ∑ r ∈ Finset.range 4096, column (blockOf (peer c) X) l r
    = ∑ r ∈ Finset.range 8192, column X (globalCol c l) r
  rw [block_sum, block_sum, peer_col, whole_sum]
  rcases halves c with ⟨h0, h1⟩ | ⟨h0, h1⟩
  · rw [h0, h1]
  · rw [h0, h1]; exact add_comm _ _

end Cert.ColSum

end
-- ==== Proof.lean ====
/-
  The proof of the claims: every run of the kernel, as printed for its floats and for ideal numbers, and every run of the
  reference ends with the input kept and all semaphores at zero; and the rows that the devices put out are the parts of
  the reference's column sums.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem

/-- The kernel over its floats has the text of the kernel over ideal numbers, so the run proved for any floats is its run:
    it ends with the input kept and the semaphores at zero. -/
theorem frame_kernel : Cert.quiescent_Kernel := fun m g _ =>
  (θ_run Cert.KernelIdeal.defs _ _).mono (fun _ h => ⟨fun c => (h.1 c).2, h.2⟩) (Cert.ColSum.run_main (F := Bits) m g)

/-- The kernel over ideal numbers ends with the input kept and the semaphores at zero. -/
theorem frame_kernelIdeal : Cert.quiescent_KernelIdeal := fun m g _ =>
  (θ_run Cert.KernelIdeal.defs _ _).mono (fun _ h => ⟨fun c => (h.1 c).2, h.2⟩) (Cert.ColSum.run_main (F := Ideal) m g)

/-- The reference ends with the input kept; it has no semaphores. -/
theorem frame_reference : Cert.quiescent_ReferenceIdeal := fun m g _ =>
  (θ_run Cert.ReferenceIdeal.defs _ _).mono (fun r h => ⟨fun c => (h c).2, sem_eq_zero_of_no_sems rfl r.2⟩)
    (Cert.ReferenceIdeal.Value.run m g)

/-- Where each device's input is its block of the reference's input, each device's row is its part of the reference's
    result. -/
theorem sums : Cert.algebraic_KernelIdeal_ReferenceIdeal := fun m g m' g' _ hin =>
  ⟨Cert.ColSum.result (m' ((0 : Dev Cert.ReferenceIdeal.nD).tc.loc Cert.ReferenceIdeal.main_arg0)),
    (θ_run Cert.KernelIdeal.defs _ _).mono
      (fun _ h c => ⟨(h.1 c).1.trans (Cert.ColSum.total_is_result _ _ hin c), (h.1 c).2⟩) (Cert.ColSum.run_main (F := Ideal) m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_kernelIdeal, frame_reference, trivial, sums⟩

end Cert.Proof

end
